-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_counted_and_ascending [hPre_counted_and_ascending : Cert.Pre_counted_and_ascending.Facts] (m : (ℓ : Loc Cert.KernelIdeal.nD Cert.KernelIdeal.τ Cert.KernelIdeal.sig) → Buf (Elt Ideal) ℓ) : Prop :=
  ∀ c : Dev Cert.KernelIdeal.nD,
    (Cert.Pre_counted_and_ascending.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counted_and_ascending [hPre_counted_and_ascending : Cert.Pre_counted_and_ascending.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counted_and_ascending.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_counted_and_ascending [hKernelIdeal : Cert.KernelIdeal.Facts] [hPre_counted_and_ascending : Cert.Pre_counted_and_ascending.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_counted_and_ascending m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_counted_and_ascending [hReferenceIdeal : Cert.ReferenceIdeal.Facts] [hPre_counted_and_ascending : Cert.Pre_counted_and_ascending.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counted_and_ascending m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_counted_and_ascending [hKernelIdeal : Cert.KernelIdeal.Facts] [hReferenceIdeal : Cert.ReferenceIdeal.Facts] [hPre_counted_and_ascending : Cert.Pre_counted_and_ascending.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_counted_and_ascending m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_counted_and_ascending : Cert.Pre_counted_and_ascending.Facts),
    quiescent_Kernel (hKernel := hKernel)
    ∧ quiescent_KernelIdeal (hKernelIdeal := hKernelIdeal)
    ∧ quiescent_KernelIdeal_pre_counted_and_ascending (hKernelIdeal := hKernelIdeal) (hPre_counted_and_ascending := hPre_counted_and_ascending)
    ∧ quiescent_ReferenceIdeal (hReferenceIdeal := hReferenceIdeal)
    ∧ quiescent_ReferenceIdeal_pre_counted_and_ascending (hReferenceIdeal := hReferenceIdeal) (hPre_counted_and_ascending := hPre_counted_and_ascending)
    ∧ preserves_Kernel_KernelIdeal
    ∧ algebraic_KernelIdeal_ReferenceIdeal_pre_counted_and_ascending (hKernelIdeal := hKernelIdeal) (hReferenceIdeal := hReferenceIdeal) (hPre_counted_and_ascending := hPre_counted_and_ascending)
-- ==== Pre_counted_and_ascending.lean ====
abbrev S262144x128 : Shape := ⟨2, ![262144, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x5 : Shape := ⟨2, ![128, 5]⟩
abbrev S128x6 : Shape := ⟨2, ![128, 6]⟩
abbrev S_ : Shape := ⟨0, ![]⟩

class Facts : Prop where
  bcast_S_S128x5 : S_.BroadcastsInDim S128x5 (![] : Fin 0 → Fin S128x5.rank)
  reducesTo_S128x5_S_d0_1 : S128x5.ReducesTo [0, 1] S_
  h_S_ : 0 < S_.numel
  reducesTo_S128x5_S128_d1 : S128x5.ReducesTo [1] S128
  bcast_S_S128 : S_.BroadcastsInDim S128 (![] : Fin 0 → Fin S128.rank)
  reducesTo_S128_S_d0 : S128.ReducesTo [0] S_
  slices_S128x6_S128x5_0_0 : S128x6.Slices ![0, 0] S128x5
  slices_S128x6_S128x5_0_1 : S128x6.Slices ![0, 1] S128x5

variable [Facts]

def fn {F : FTy → Type} [FloatOps F] (main_arg0 : FVec F S262144x128 .f32) (main_arg1 : FVec F S128x128 .f32) (main_arg2 : FVec F S128 .f32) (main_arg3 : FVec F S128x64 .f32) (main_arg4 : FVec F S64 .f32) (main_arg5 : FVec F S128x5 .f32) (main_arg6 : FVec F S128x6 .f32) : IVec S_ 1 :=
  let main_cst : FVec F S_ .f32 := constant S_ .f32 0x00000000#32
  let main_v0 : FVec F S128x5 .f32 := broadcastInDim S128x5 ![] bcast_S_S128x5 main_cst
  let main_v1 : IVec S128x5 1 := cmpf .oge main_arg5 main_v0
  let main_c : IVec S_ 1 := constantI S_ 1 1#1
  let main_v2 : IVec S_ 1 := (fun x v => Host.reduce IntOp.andi x v reducesTo_S128x5_S_d0_1 h_S_) main_v1 main_c
  let main_cst_0 : FVec F S_ .f32 := constant S_ .f32 0x00000000#32
  let main_v3 : FVec F S128 .f32 := (fun x v => Host.reduceAdd x v reducesTo_S128x5_S128_d1 h_S_) main_arg5 main_cst_0
  let main_cst_1 : FVec F S_ .f32 := constant S_ .f32 0x00000000#32
  let main_v4 : FVec F S128 .f32 := broadcastInDim S128 ![] bcast_S_S128 main_cst_1
  let main_v5 : IVec S128 1 := cmpf .ogt main_v3 main_v4
  let main_c_2 : IVec S_ 1 := constantI S_ 1 1#1
  let main_v6 : IVec S_ 1 := (fun x v => Host.reduce IntOp.andi x v reducesTo_S128_S_d0 h_S_) main_v5 main_c_2
  let main_v7 : IVec S_ 1 := andi main_v2 main_v6
  let main_v8 : FVec F S128x5 .f32 := (extractStridedSlice S128x5 ![0, 0] · slices_S128x6_S128x5_0_0) main_arg6
  let main_v9 : FVec F S128x5 .f32 := (extractStridedSlice S128x5 ![0, 1] · slices_S128x6_S128x5_0_1) main_arg6
  let main_v10 : IVec S128x5 1 := cmpf .ole main_v8 main_v9
  let main_c_3 : IVec S_ 1 := constantI S_ 1 1#1
  let main_v11 : IVec S_ 1 := (fun x v => Host.reduce IntOp.andi x v reducesTo_S128x5_S_d0_1 h_S_) main_v10 main_c_3
  let main_v12 : IVec S_ 1 := andi main_v7 main_v11
  main_v12
-- ==== Kernel.lean ====
abbrev S262144x128 : Shape := ⟨2, ![262144, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x5 : Shape := ⟨2, ![128, 5]⟩
abbrev S128x6 : Shape := ⟨2, ![128, 6]⟩
abbrev S_ : Shape := ⟨0, ![]⟩
abbrev S8x128 : Shape := ⟨2, ![8, 128]⟩
abbrev S5x128 : Shape := ⟨2, ![5, 128]⟩
abbrev S1 : Shape := ⟨1, ![1]⟩
abbrev S128x4 : Shape := ⟨2, ![128, 4]⟩
abbrev S4x128 : Shape := ⟨2, ![4, 128]⟩
abbrev S1x128 : Shape := ⟨2, ![1, 128]⟩
abbrev S1x64 : Shape := ⟨2, ![1, 64]⟩
abbrev S262144x64 : Shape := ⟨2, ![262144, 64]⟩
abbrev S262144x1 : Shape := ⟨2, ![262144, 1]⟩
abbrev S16384x128 : Shape := ⟨2, ![16384, 128]⟩
abbrev S16384x64 : Shape := ⟨2, ![16384, 64]⟩
abbrev S16384x1 : Shape := ⟨2, ![16384, 1]⟩
abbrev S128x1 : Shape := ⟨2, ![128, 1]⟩
abbrev S262144 : Shape := ⟨1, ![262144]⟩

abbrev nBuf : Space → Nat
  | .hbm => 25
  | .vmem => 12
  | .smem => 0
  | _ => 0

abbrev bufTy : (tb : Table) → Fin (tcTables nBuf tb) → BufTy
  | .hbm, ⟨0, _⟩ => ⟨S262144x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S128x5, .f32⟩
  | .hbm, ⟨6, _⟩ => ⟨S128x6, .f32⟩
  | .hbm, ⟨7, _⟩ => ⟨S_, .f32⟩
  | .hbm, ⟨8, _⟩ => ⟨S8x128, .f32⟩
  | .hbm, ⟨9, _⟩ => ⟨S5x128, .f32⟩
  | .hbm, ⟨10, _⟩ => ⟨S_, .i32⟩
  | .hbm, ⟨11, _⟩ => ⟨S1, .i32⟩
  | .hbm, ⟨12, _⟩ => ⟨S8x128, .f32⟩
  | .hbm, ⟨13, _⟩ => ⟨S_, .f32⟩
  | .hbm, ⟨14, _⟩ => ⟨S8x128, .f32⟩
  | .hbm, ⟨15, _⟩ => ⟨S128x4, .f32⟩
  | .hbm, ⟨16, _⟩ => ⟨S4x128, .f32⟩
  | .hbm, ⟨17, _⟩ => ⟨S_, .i32⟩
  | .hbm, ⟨18, _⟩ => ⟨S1, .i32⟩
  | .hbm, ⟨19, _⟩ => ⟨S8x128, .f32⟩
  | .hbm, ⟨20, _⟩ => ⟨S1x128, .f32⟩
  | .hbm, ⟨21, _⟩ => ⟨S1x64, .f32⟩
  | .hbm, ⟨22, _⟩ => ⟨S262144x64, .f32⟩
  | .hbm, ⟨23, _⟩ => ⟨S262144x1, .f32⟩
  | .hbm, ⟨24, _⟩ => ⟨S262144, .f32⟩
  | .local _ .vmem, ⟨0, _⟩ => ⟨S16384x128, .f32⟩
  | .local _ .vmem, ⟨1, _⟩ => ⟨S16384x128, .f32⟩
  | .local _ .vmem, ⟨2, _⟩ => ⟨S128x128, .f32⟩
  | .local _ .vmem, ⟨3, _⟩ => ⟨S1x128, .f32⟩
  | .local _ .vmem, ⟨4, _⟩ => ⟨S128x64, .f32⟩
  | .local _ .vmem, ⟨5, _⟩ => ⟨S1x64, .f32⟩
  | .local _ .vmem, ⟨6, _⟩ => ⟨S8x128, .f32⟩
  | .local _ .vmem, ⟨7, _⟩ => ⟨S8x128, .f32⟩
  | .local _ .vmem, ⟨8, _⟩ => ⟨S16384x64, .f32⟩
  | .local _ .vmem, ⟨9, _⟩ => ⟨S16384x64, .f32⟩
  | .local _ .vmem, ⟨10, _⟩ => ⟨S16384x1, .f32⟩
  | .local _ .vmem, ⟨11, _⟩ => ⟨S16384x1, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16384x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16384x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S262144x128 : Shape := ⟨2, ![262144, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x5 : Shape := ⟨2, ![128, 5]⟩
abbrev S128x6 : Shape := ⟨2, ![128, 6]⟩
abbrev S_ : Shape := ⟨0, ![]⟩
abbrev S128x1 : Shape := ⟨2, ![128, 1]⟩
abbrev S1x128 : Shape := ⟨2, ![1, 128]⟩
abbrev S262144x64 : Shape := ⟨2, ![262144, 64]⟩
abbrev S1x64 : Shape := ⟨2, ![1, 64]⟩
abbrev S1x128x6 : Shape := ⟨3, ![1, 128, 6]⟩
abbrev S262144x128x1 : Shape := ⟨3, ![262144, 128, 1]⟩
abbrev S262144x128x6 : Shape := ⟨3, ![262144, 128, 6]⟩
abbrev S262144x128x2 : Shape := ⟨3, ![262144, 128, 2]⟩
abbrev S262144x32 : Shape := ⟨2, ![262144, 32]⟩
abbrev S262144x16 : Shape := ⟨2, ![262144, 16]⟩
abbrev S262144x8 : Shape := ⟨2, ![262144, 8]⟩
abbrev S262144x4 : Shape := ⟨2, ![262144, 4]⟩
abbrev S262144x2 : Shape := ⟨2, ![262144, 2]⟩
abbrev S262144x1 : Shape := ⟨2, ![262144, 1]⟩
abbrev S262144 : Shape := ⟨1, ![262144]⟩

abbrev nBuf : Space → Nat
  | .hbm => 85
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S128x5, .f32⟩
  | .hbm, ⟨6, _⟩ => ⟨S128x6, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S128x5, .f32⟩
  | .hbm, ⟨11, _⟩ => ⟨S128x5, .f32⟩
  | .hbm, ⟨12, _⟩ => ⟨S262144x128, .f32⟩
  | .hbm, ⟨13, _⟩ => ⟨S1x128, .f32⟩
  | .hbm, ⟨14, _⟩ => ⟨S262144x128, .f32⟩
  | .hbm, ⟨15, _⟩ => ⟨S262144x128, .f32⟩
  | .hbm, ⟨16, _⟩ => ⟨S_, .f32⟩
  | .hbm, ⟨17, _⟩ => ⟨S262144x128, .f32⟩
  | .hbm, ⟨18, _⟩ => ⟨S262144x128, .f32⟩
  | .hbm, ⟨19, _⟩ => ⟨S262144x64, .f32⟩
  | .hbm, ⟨20, _⟩ => ⟨S1x64, .f32⟩
  | .hbm, ⟨21, _⟩ => ⟨S262144x64, .f32⟩
  | .hbm, ⟨22, _⟩ => ⟨S262144x64, .f32⟩
  | .hbm, ⟨23, _⟩ => ⟨S1x128x6, .f32⟩
  | .hbm, ⟨24, _⟩ => ⟨S262144x128x1, .f32⟩
  | .hbm, ⟨25, _⟩ => ⟨S262144x128x6, .f32⟩
  | .hbm, ⟨26, _⟩ => ⟨S262144x128x6, .f32⟩
  | .hbm, ⟨27, _⟩ => ⟨S262144x128x6, .i1⟩
  | .hbm, ⟨28, _⟩ => ⟨S262144x128x6, .i32⟩
  | .hbm, ⟨29, _⟩ => ⟨S_, .i32⟩
  | .hbm, ⟨30, _⟩ => ⟨S262144x128, .i32⟩
  | .hbm, ⟨31, _⟩ => ⟨S_, .i32⟩
  | .hbm, ⟨32, _⟩ => ⟨S262144x128, .i32⟩
  | .hbm, ⟨33, _⟩ => ⟨S262144x128, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S262144x128, .i32⟩
  | .hbm, ⟨38, _⟩ => ⟨S262144x128, .i32⟩
  | .hbm, ⟨39, _⟩ => ⟨S_, .i32⟩
  | .hbm, ⟨40, _⟩ => ⟨S262144x128, .i32⟩
  | .hbm, ⟨41, _⟩ => ⟨S262144x128, .i32⟩
  | .hbm, ⟨42, _⟩ => ⟨S128, .i32⟩
  | .hbm, ⟨43, _⟩ => ⟨S1x128, .i32⟩
  | .hbm, ⟨44, _⟩ => ⟨S_, .i32⟩
  | .hbm, ⟨45, _⟩ => ⟨S1x128, .i32⟩
  | .hbm, ⟨46, _⟩ => ⟨S1x128, .i1⟩
  | .hbm, ⟨47, _⟩ => ⟨S_, .i32⟩
  | .hbm, ⟨48, _⟩ => ⟨S1x128, .i32⟩
  | .hbm, ⟨49, _⟩ => ⟨S1x128, .i32⟩
  | .hbm, ⟨50, _⟩ => ⟨S1x128, .i32⟩
  | .hbm, ⟨51, _⟩ => ⟨S_, .i32⟩
  | .hbm, ⟨52, _⟩ => ⟨S262144x128, .i32⟩
  | .hbm, ⟨53, _⟩ => ⟨S262144x128, .i1⟩
  | .hbm, ⟨54, _⟩ => ⟨S_, .i32⟩
  | .hbm, ⟨55, _⟩ => ⟨S262144x128, .i32⟩
  | .hbm, ⟨56, _⟩ => ⟨S262144x128, .i32⟩
  | .hbm, ⟨57, _⟩ => ⟨S262144x128, .i32⟩
  | .hbm, ⟨58, _⟩ => ⟨S262144x128, .i32⟩
  | .hbm, ⟨59, _⟩ => ⟨S262144x128x1, .i32⟩
  | .hbm, ⟨60, _⟩ => ⟨S262144x128x1, .i32⟩
  | .hbm, ⟨61, _⟩ => ⟨S262144x128x2, .i32⟩
  | .hbm, ⟨62, _⟩ => ⟨S262144x128, .f32⟩
  | .hbm, ⟨63, _⟩ => ⟨S262144x64, .f32⟩
  | .hbm, ⟨64, _⟩ => ⟨S262144x64, .f32⟩
  | .hbm, ⟨65, _⟩ => ⟨S262144x64, .f32⟩
  | .hbm, ⟨66, _⟩ => ⟨S262144x32, .f32⟩
  | .hbm, ⟨67, _⟩ => ⟨S262144x32, .f32⟩
  | .hbm, ⟨68, _⟩ => ⟨S262144x32, .f32⟩
  | .hbm, ⟨69, _⟩ => ⟨S262144x16, .f32⟩
  | .hbm, ⟨70, _⟩ => ⟨S262144x16, .f32⟩
  | .hbm, ⟨71, _⟩ => ⟨S262144x16, .f32⟩
  | .hbm, ⟨72, _⟩ => ⟨S262144x8, .f32⟩
  | .hbm, ⟨73, _⟩ => ⟨S262144x8, .f32⟩
  | .hbm, ⟨74, _⟩ => ⟨S262144x8, .f32⟩
  | .hbm, ⟨75, _⟩ => ⟨S262144x4, .f32⟩
  | .hbm, ⟨76, _⟩ => ⟨S262144x4, .f32⟩
  | .hbm, ⟨77, _⟩ => ⟨S262144x4, .f32⟩
  | .hbm, ⟨78, _⟩ => ⟨S262144x2, .f32⟩
  | .hbm, ⟨79, _⟩ => ⟨S262144x2, .f32⟩
  | .hbm, ⟨80, _⟩ => ⟨S262144x2, .f32⟩
  | .hbm, ⟨81, _⟩ => ⟨S262144x1, .f32⟩
  | .hbm, ⟨82, _⟩ => ⟨S262144x1, .f32⟩
  | .hbm, ⟨83, _⟩ => ⟨S262144x1, .f32⟩
  | .hbm, ⟨84, _⟩ => ⟨S262144, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_c_0 : Ref sig .tc := ⟨.hbm, 31, rfl⟩
abbrev main_v20 : Ref sig .tc := ⟨.hbm, 32, rfl⟩
abbrev main_v21 : Ref sig .tc := ⟨.hbm, 33, rfl⟩
abbrev main_c_1 : Ref sig .tc := ⟨.hbm, 34, rfl⟩
abbrev main_c_2 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_3 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== Proof.Math.lean ====
/- The mathematics of the digitised-histogram bias, with no program in sight: sums of logarithms against products, products by halves,
   and the bin that a chain of comparisons picks against the bin that counting the edges picks. -/
module

public import Idealize.ShloMosaic.Lib.Pointwise
public import Idealize.ShloMosaic.Lib.WordCmp

@[expose] public section

set_option maxRecDepth 16384

noncomputable section

namespace Cert.Digitized

open Idealize.ShloMosaic

/-! ## Sums of logarithms and products -/

/-- The exponential of a sum is the product of the exponentials, at every two extended reals. -/
theorem exp_add (a b : EReal) : Ideal.exp (a + b) = Ideal.exp a * Ideal.exp b := by
  induction a with
  | bot => simp
  | top =>
    induction b with
    | bot => simp
    | top => simp
    | coe b => simp [EReal.top_mul_coe_of_pos (Real.exp_pos b)]
  | coe a =>
    induction b with
    | bot => simp
    | top => simp [EReal.coe_mul_top_of_pos (Real.exp_pos a)]
    | coe b => rw [← EReal.coe_add, Ideal.exp_coe, Ideal.exp_coe, Ideal.exp_coe, Real.exp_add, EReal.coe_mul]

/-- The exponential undoes the logarithm of an extended real that is not negative, zero and infinity included. -/
theorem exp_log (a : EReal) (h : 0 ≤ a) : Ideal.exp (Ideal.log a) = a := by
  induction a with
  | bot => simp at h
  | top => simp
  | coe a =>
    have ha : 0 ≤ a := EReal.coe_nonneg.1 h
    rcases ha.eq_or_lt with rfl | ha
    · rw [Ideal.log_coe, if_pos le_rfl, Ideal.exp_bot, EReal.coe_zero]
    · simp [Ideal.log_coe, ha, ha.not_ge, Real.exp_log ha]

/-- The exponential of a finite sum is the product of the exponentials. -/
theorem exp_sum {n : ℕ} (g : Fin n → EReal) : Ideal.exp (∑ k, g k) = ∏ k, Ideal.exp (g k) := by
  induction n with
  | zero =>
    rw [Fin.sum_univ_zero, Fin.prod_univ_zero, ← EReal.coe_zero, Ideal.exp_coe, Real.exp_zero, EReal.coe_one]
  | succ n ih => rw [Fin.sum_univ_succ, Fin.prod_univ_succ, exp_add, ih]

/-- The exponential of a sum of logarithms of numbers that are not negative is their product. -/
theorem exp_sum_log {n : ℕ} (g : Fin n → EReal) (h : ∀ k, 0 ≤ g k) : Ideal.exp (∑ k, Ideal.log (g k)) = ∏ k, g k := by
  rw [exp_sum]
  exact Finset.prod_congr rfl fun k _ => exp_log _ (h k)

/-- A product over an even number of factors, paired first half against second. -/
theorem prod_halves {N : ℕ} (h : ℕ) (hN : N = h + h) (g : Fin N → EReal) :
    ∏ k : Fin h, g ⟨k.val, by omega⟩ * g ⟨h + k.val, by omega⟩ = ∏ k, g k := by
  subst hN
  rw [Fin.prod_univ_add, Finset.prod_mul_distrib]
  rfl

/-! ## A histogram's shares -/

/-- A count that is not negative over a positive total is not negative. -/
theorem div_nonneg (a s : EReal) (ha : 0 ≤ a) (hs : 0 < s) : 0 ≤ Ideal.div a s := by
  unfold Ideal.div
  rw [if_neg hs.ne']
  exact mul_nonneg ha (EReal.inv_nonneg_of_nonneg hs.le)

/-! ## Which bin -/

/-- The last of the bins `1 … 4` whose lower edge `e 1 … e 4` is at most `v`, and bin 0 if there is none. -/
def bin (e : Fin 6 → EReal) (v : EReal) : Fin 5 :=
  if e 4 ≤ v then 4 else if e 3 ≤ v then 3 else if e 2 ≤ v then 2 else if e 1 ≤ v then 1 else 0

/-- How many of six answers are yes, less one, clipped to `0 … 4`: as a word. -/
def clipped (c : Fin 6 → Bool) : BitVec 32 :=
  IntOp.minsi 4#32 (IntOp.maxsi 0#32 (IntOp.subi (Finset.fold IntOp.addi (0#32) (fun k => BitVec.setWidth 32 (BitVec.ofBool (c k))) Finset.univ) 1#32))

/-- If no answer after a no is a yes, the clipped count is the number of the last yes among the answers 1 to 4. -/
theorem clipped_eq : ∀ c : Fin 6 → Bool, (∀ i : Fin 5, c i.succ = true → c i.castSucc = true) →
    clipped c = BitVec.ofNat 32 (if c 4 = true then 4 else if c 3 = true then 3 else if c 2 = true then 2 else if c 1 = true then 1 else (0 : Fin 5)).val := by
  decide +kernel

/-- Along ascending edges, the clipped count of the edges that are at most `v` is the number of `v`'s bin. -/
theorem clipped_bin (e : Fin 6 → EReal) (v : EReal) (he : ∀ i : Fin 5, e i.castSucc ≤ e i.succ) :
    clipped (fun k => decide (e k ≤ v)) = BitVec.ofNat 32 (bin e v).val := by
  rw [clipped_eq _ fun i h => decide_eq_true ((he i).trans (of_decide_eq_true h))]
  simp only [decide_eq_true_eq, bin]

/-- A small word is not negative, so wrapping negative words round leaves it. -/
theorem wrap_small (n : ℕ) (w : BitVec 32) (h : n < 2 ^ 31) : Scalar.select (IntOp.cmpi .slt (BitVec.ofNat 32 n) 0#32) w (BitVec.ofNat 32 n) = BitVec.ofNat 32 n := by
  rw [WordCmp.cmpi_slt_zero, WordCmp.select_decide, BitVec.toNat_ofNat, Nat.mod_eq_of_lt (by omega), if_neg (by omega)]

/-- The signed value of a small word. -/
theorem toInt_small (n : ℕ) (h : n < 2 ^ 31) : (BitVec.ofNat 32 n).toInt = (n : ℤ) := by
  rw [BitVec.toInt_eq_toNat_cond, BitVec.toNat_ofNat, Nat.mod_eq_of_lt (by omega), if_pos (by omega)]

/-! ## What is computed -/

/-- A feature: a row of `x` against a column of `W1`, plus its bias, and no less than zero. -/
def feature (x : FVec Ideal ⟨2, ![262144, 128]⟩ .f32) (W1 : FVec Ideal ⟨2, ![128, 128]⟩ .f32) (b1 : FVec Ideal ⟨1, ![128]⟩ .f32) (n : Fin 262144) (f : Fin 128) : EReal :=
  max (∑ k : Fin 128, x (ix2 n k) * W1 (ix2 k f) + b1 (ix1 f)) 0

/-- An output: the features of a row against a column of `W2`, plus its bias. -/
def output (x : FVec Ideal ⟨2, ![262144, 128]⟩ .f32) (W1 : FVec Ideal ⟨2, ![128, 128]⟩ .f32) (b1 : FVec Ideal ⟨1, ![128]⟩ .f32)
    (W2 : FVec Ideal ⟨2, ![128, 64]⟩ .f32) (b2 : FVec Ideal ⟨1, ![64]⟩ .f32) (n : Fin 262144) (l : Fin 64) : EReal :=
  ∑ f : Fin 128, feature x W1 b1 n f * W2 (ix2 f l) + b2 (ix1 l)

/-- The share of feature `f`'s counts that lies in bin `k`. -/
def share (H : FVec Ideal ⟨2, ![128, 5]⟩ .f32) (f : Fin 128) (k : Fin 5) : EReal :=
  Ideal.div (H (ix2 f k)) (∑ l : Fin 5, H (ix2 f l))

/-- The edges of feature `f`'s bins. -/
def edge (E : FVec Ideal ⟨2, ![128, 6]⟩ .f32) (f : Fin 128) (k : Fin 6) : EReal := E (ix2 f k)

/-- The share of the bin that feature `f` of row `n` lies in. -/
def probability (x : FVec Ideal ⟨2, ![262144, 128]⟩ .f32) (W1 : FVec Ideal ⟨2, ![128, 128]⟩ .f32) (b1 : FVec Ideal ⟨1, ![128]⟩ .f32)
    (H : FVec Ideal ⟨2, ![128, 5]⟩ .f32) (E : FVec Ideal ⟨2, ![128, 6]⟩ .f32) (n : Fin 262144) (f : Fin 128) : EReal :=
  share H f (bin (edge E f) (feature x W1 b1 n f))

/-- The bias of row `n`: the product of the shares of the bins that its features lie in. -/
def bias (x : FVec Ideal ⟨2, ![262144, 128]⟩ .f32) (W1 : FVec Ideal ⟨2, ![128, 128]⟩ .f32) (b1 : FVec Ideal ⟨1, ![128]⟩ .f32)
    (H : FVec Ideal ⟨2, ![128, 5]⟩ .f32) (E : FVec Ideal ⟨2, ![128, 6]⟩ .f32) (n : Fin 262144) : EReal :=
  ∏ f : Fin 128, probability x W1 b1 H E n f

/-- No count is negative, every feature has been counted, and every feature's edges ascend. -/
structure Counted (H : FVec Ideal ⟨2, ![128, 5]⟩ .f32) (E : FVec Ideal ⟨2, ![128, 6]⟩ .f32) : Prop where
  counts : ∀ (f : Fin 128) (k : Fin 5), 0 ≤ H (ix2 f k)
  total : ∀ f : Fin 128, 0 < ∑ l : Fin 5, H (ix2 f l)
  ascend : ∀ (f : Fin 128) (i : Fin 5), edge E f i.castSucc ≤ edge E f i.succ

/-- A share of counts is not negative. -/
theorem Counted.share_nonneg {H : FVec Ideal ⟨2, ![128, 5]⟩ .f32} {E : FVec Ideal ⟨2, ![128, 6]⟩ .f32} (h : Counted H E) (f : Fin 128) (k : Fin 5) : 0 ≤ share H f k :=
  div_nonneg _ _ (h.counts f k) (h.total f)

end Cert.Digitized

end
-- ==== Proof.Pre.lean ====
/- The precondition read as statements about the histograms' counts and the bins' edges. -/
module

public import proofs.«01_k».proof.Proof.Gen.Pre_counted_and_ascending
public import proofs.«01_k».proof.Proof.Math
public import Idealize.ShloMosaic.Lib.Pointwise
public import Idealize.ShloMosaic.Lib.ReduceAll

@[expose] public section

set_option maxRecDepth 16384

noncomputable section

open Idealize.ShloMosaic Idealize.ShloMosaic.TcCoe Idealize.SL.Sem

namespace Cert.Pre_counted_and_ascending.Read

open Cert.Pre_counted_and_ascending Cert.Pre_counted_and_ascending.Gen Cert.Digitized

/-- An answer that is a set bit is a yes. -/
theorem ofBool_one {b : Bool} (h : BitVec.ofBool b = 1#1) : b = true := by
  revert h
  cases b <;> decide

/-- Where the precondition answers yes, no count is negative, every feature has been counted, and every feature's edges ascend. -/
theorem counted (x : FVec Ideal S262144x128 .f32) (W1 : FVec Ideal S128x128 .f32) (b1 : FVec Ideal S128 .f32) (W2 : FVec Ideal S128x64 .f32)
    (b2 : FVec Ideal S64 .f32) (H : FVec Ideal S128x5 .f32) (E : FVec Ideal S128x6 .f32)
    (h : fn (F := Ideal) x W1 b1 W2 b2 H E = fun _ => 1#1) : Counted H E := by
  have : Subsingleton S_.Idx := ⟨fun a b => funext fun i => i.elim0⟩
  have h0 := congrFun h ix0
  unfold fn at h0
  obtain ⟨h01, h2⟩ := IntOp.andi_eq_one.1 h0
  obtain ⟨h0, h1⟩ := IntOp.andi_eq_one.1 h01
  have g0 := Host.reduce_andi_all _ _ _ _ _ h0
  have g1 := Host.reduce_andi_all _ _ _ _ _ h1
  have g2 := Host.reduce_andi_all _ _ _ _ _ h2
  refine ⟨fun f k => ?_, fun f => ?_, fun f i => ?_⟩
  · have := g0 (ix2 f k)
    pointwise at this
    exact of_decide_eq_true (ofBool_one this)
  · have := g1 (ix1 f)
    pointwise at this
    exact of_decide_eq_true (ofBool_one this)
  · have := g2 (ix2 f i)
    pointwise at this
    have e : (⟨1 + i.val, by omega⟩ : Fin 6) = i.succ := Fin.ext (by show 1 + i.val = i.val + 1; omega)
    rw [← e]
    exact of_decide_eq_true (ofBool_one this)

end Cert.Pre_counted_and_ascending.Read

end
-- ==== Proof.KernelPure.lean ====
/- What the kernel's body stores, read at an element. -/
module

public import proofs.«01_k».proof.Proof.Gen.KernelIdeal.Skeleton
public import proofs.«01_k».proof.Proof.Math
public import Idealize.ShloMosaic.Lib.Pointwise

@[expose] public section

set_option maxRecDepth 16384

noncomputable section

open Idealize.ShloMosaic Idealize.ShloMosaic.TcCoe Idealize.SL.Sem

namespace Cert.KernelIdeal.Body

open Cert.KernelIdeal Cert.KernelIdeal.Gen Cert.Digitized

variable {X : FVec Ideal S16384x128 .f32} {W : FVec Ideal S128x128 .f32} {B : FVec Ideal S1x128 .f32} {W' : FVec Ideal S128x64 .f32} {B' : FVec Ideal S1x64 .f32}
  {HT ET : FVec Ideal S8x128 .f32}
variable {x : FVec Ideal S262144x128 .f32} {W1 : FVec Ideal S128x128 .f32} {b1 : FVec Ideal S128 .f32} {W2 : FVec Ideal S128x64 .f32} {b2 : FVec Ideal S64 .f32}
  {H : FVec Ideal S128x5 .f32} {E : FVec Ideal S128x6 .f32}

/-- Row `r` of the block of `x` is row `n` of `x`, and the first layer's weights and bias are the arguments'. -/
structure First (X : FVec Ideal S16384x128 .f32) (W : FVec Ideal S128x128 .f32) (B : FVec Ideal S1x128 .f32)
    (x : FVec Ideal S262144x128 .f32) (W1 : FVec Ideal S128x128 .f32) (b1 : FVec Ideal S128 .f32) (r : Fin 16384) (n : Fin 262144) : Prop where
  row : ∀ k : Fin 128, X (ix2 r k) = x (ix2 n k)
  weight : ∀ k f : Fin 128, W (ix2 k f) = W1 (ix2 k f)
  offset : ∀ f : Fin 128, B (ix2 (0 : Fin 1) f) = b1 (ix1 f)

/-- The staged histograms are the counts with a row per bin and three rows of zeros below, and the staged edges are the inner ones with a row each. -/
structure Tables (HT ET : FVec Ideal S8x128 .f32) (H : FVec Ideal S128x5 .f32) (E : FVec Ideal S128x6 .f32) : Prop where
  counts : ∀ (k : Fin 8) (f : Fin 128) (h : k.val < 5), HT (ix2 k f) = H (ix2 f ⟨k.val, h⟩)
  zeros : ∀ (k : Fin 8) (f : Fin 128), 5 ≤ k.val → HT (ix2 k f) = 0
  edges : ∀ (k : Fin 8) (f : Fin 128) (h : k.val < 4), ET (ix2 k f) = edge E f ⟨k.val + 1, by omega⟩

/-- The body's features are the features of the row. -/
theorem features {r : Fin 16384} {n : Fin 262144} (h : First X W B x W1 b1 r n) (f : Fin 128) :
    k0_pay2 (F := Ideal) X W B (ix2 r f) = feature x W1 b1 n f := by
  pointwise [k0_pay2, feature]
  rw [h.offset]
  exact congrArg (fun z => max (z + b1 (ix1 f)) 0) (Finset.sum_congr rfl fun k _ => by rw [h.row, h.weight])

/-- **The body's first store is the outputs of the row.** -/
theorem outputs {r : Fin 16384} {n : Fin 262144} (h : First X W B x W1 b1 r n) (hW : ∀ (f : Fin 128) (l : Fin 64), W' (ix2 f l) = W2 (ix2 f l))
    (hB : ∀ l : Fin 64, B' (ix2 (0 : Fin 1) l) = b2 (ix1 l)) (l : Fin 64) :
    k0_pay3 (F := Ideal) X W B W' B' (ix2 r l) = output x W1 b1 W2 b2 n l := by
  pointwise [k0_pay3, output]
  rw [hB]
  exact congrArg (· + b2 (ix1 l)) (Finset.sum_congr rfl fun f _ => by rw [features h, hW])

/-- The body's logarithms of shares: the three rows of zeros add nothing to a total. -/
theorem logs (h : Tables HT ET H E) (k : Fin 8) (f : Fin 128) (hk : k.val < 5) :
    k0_pay4 (F := Ideal) HT (ix2 k f) = Ideal.log (share H f ⟨k.val, hk⟩) := by
  have total : ∑ l : Fin 8, HT (ix2 l f) = ∑ l : Fin 5, H (ix2 f l) := by
    refine (Fin.sum_univ_add (a := 5) (b := 3) fun l : Fin 8 => HT (ix2 l f)).trans ?_
    rw [Finset.sum_eq_zero (s := Finset.univ (α := Fin 3)) (fun i _ => h.zeros _ f (Nat.le_add_right 5 i.val)), add_zero]
    exact Finset.sum_congr rfl fun l _ => h.counts (Fin.castAdd 3 l) f l.isLt
  pointwise [k0_pay4, share]
  rw [total, h.counts k f hk]

/-- **The body's second store is the bias of the row.** -/
theorem biases {r : Fin 16384} {n : Fin 262144} (h : First X W B x W1 b1 r n) (t : Tables HT ET H E) (hc : Counted H E) :
    k0_pay1 (F := Ideal) (k0_pay2 (F := Ideal) X W B) (k0_pay4 (F := Ideal) HT) (k0_pay5 (F := Ideal) ET) (k0_pay6 (F := Ideal) X W B HT ET)
        (k0_pay7 (F := Ideal) X W B ET) (ix2 r (0 : Fin 1)) = bias x W1 b1 H E n := by
  have picked : ∀ f : Fin 128, Ideal.log (probability x W1 b1 H E n f)
      = if ET (ix2 (3 : Fin 8) f) ≤ k0_pay2 (F := Ideal) X W B (ix2 r f) then k0_pay4 (F := Ideal) HT (ix2 (4 : Fin 8) f)
        else if ET (ix2 (2 : Fin 8) f) ≤ k0_pay2 (F := Ideal) X W B (ix2 r f) then k0_pay4 (F := Ideal) HT (ix2 (3 : Fin 8) f)
        else if ET (ix2 (1 : Fin 8) f) ≤ k0_pay2 (F := Ideal) X W B (ix2 r f) then k0_pay4 (F := Ideal) HT (ix2 (2 : Fin 8) f)
        else if ET (ix2 (0 : Fin 8) f) ≤ k0_pay2 (F := Ideal) X W B (ix2 r f) then k0_pay4 (F := Ideal) HT (ix2 (1 : Fin 8) f)
        else k0_pay4 (F := Ideal) HT (ix2 (0 : Fin 8) f) := fun f => by
    rw [features h, logs t 4 f (by decide), logs t 3 f (by decide), logs t 2 f (by decide), logs t 1 f (by decide), logs t 0 f (by decide),
      t.edges 3 f (by decide), t.edges 2 f (by decide), t.edges 1 f (by decide), t.edges 0 f (by decide)]
    unfold probability bin
    generalize feature x W1 b1 n f = v
    show Ideal.log (share H f (if edge E f 4 ≤ v then 4 else if edge E f 3 ≤ v then 3 else if edge E f 2 ≤ v then 2 else if edge E f 1 ≤ v then 1 else 0))
      = if edge E f 4 ≤ v then Ideal.log (share H f 4) else if edge E f 3 ≤ v then Ideal.log (share H f 3) else if edge E f 2 ≤ v then Ideal.log (share H f 2)
        else if edge E f 1 ≤ v then Ideal.log (share H f 1) else Ideal.log (share H f 0)
    split_ifs <;> rfl
  refine Eq.trans ?_ (exp_sum_log (fun f => probability x W1 b1 H E n f) fun f => hc.share_nonneg f _)
  pointwise [k0_pay1, k0_pay5, k0_pay6, k0_pay7]
  exact congrArg Ideal.exp (Finset.sum_congr rfl fun f _ => (picked f).symm)

end Cert.KernelIdeal.Body

end
-- ==== Proof.Movement.lean ====
/- Two moves of array elements read at an index, at any extents: setting the first rows of a table, and looking a table up by a row number and a
   column number. -/
module

public import Idealize.ShloMosaic.Lib.Pointwise
public import Idealize.ShloMosaic.Lib.Routing.OpsSet

@[expose] public section

set_option maxRecDepth 16384

noncomputable section

namespace Cert.Digitized

open Idealize.ShloMosaic

/-- The dimension numbers of setting `B` whole rows of an `A × C` table from one starting row. -/
abbrev rowsDims (A B C : ℕ) (wf : ScatterDims.WF ⟨2, ![A, C]⟩ ⟨1, ![1]⟩ ⟨2, ![B, C]⟩ [0, 1] [] [0] 0) :
    ScatterDims ⟨2, ![A, C]⟩ ⟨1, ![1]⟩ ⟨2, ![B, C]⟩ where
  updateWindowDims := [0, 1]
  insertedWindowDims := []
  scatterDimsToOperandDims := [0]
  indexVectorDim := 0
  wf := wf

/-- Element `(b, c)` of the rows to set goes to element `(b, c)` of the table when the starting row is 0. -/
theorem rows_land {A B C w : ℕ} (wf : ScatterDims.WF ⟨2, ![A, C]⟩ ⟨1, ![1]⟩ ⟨2, ![B, C]⟩ [0, 1] [] [0] 0)
    (idx : IVec ⟨1, ![1]⟩ w) (h0 : (idx (ix1 (0 : Fin 1))).toInt = 0) (b : Fin B) (c' : Fin C) (r : Fin A) (c : Fin C) :
    (rowsDims A B C wf).resultIdx? (ix2 b c') idx = some (ix2 r c) ↔ b.val = r.val ∧ c' = c := by
  have hw0 : (rowsDims A B C wf).window (ix2 b c') 0 = b.val := rfl
  have hw1 : (rowsDims A B C wf).window (ix2 b c') 1 = c'.val := rfl
  have hs1 : (rowsDims A B C wf).start (ix2 b c') idx 1 = 0 := rfl
  have hs0 : (rowsDims A B C wf).start (ix2 b c') idx 0 = 0 := by
    unfold ScatterDims.start
    rw [dif_pos (show (0 : Fin 2) ∈ (rowsDims A B C wf).scatterDimsToOperandDims from List.mem_singleton.2 rfl)]
    refine Eq.trans (congrArg (fun i => (idx i).toInt) ?_) h0
    funext a
    obtain rfl : a = 0 := Subsingleton.elim (α := Fin 1) _ _
    exact Subsingleton.elim (α := Fin 1) _ _
  refine (Routing.resultIdx?_ix2 (rowsDims A B C wf) _ idx r c).trans ?_
  rw [hw0, hw1, hs0, hs1, Fin.ext_iff]
  omega

/-- **Setting the first `B` rows of an `A × C` table, read at `(r, c)`**: the new row's element for `r < B`, the table's own below. -/
theorem scatter_rows {α : Type} {A B C w : ℕ} (wf : ScatterDims.WF ⟨2, ![A, C]⟩ ⟨1, ![1]⟩ ⟨2, ![B, C]⟩ [0, 1] [] [0] 0)
    (x : (⟨2, ![A, C]⟩ : Shape).Idx → α) (idx : IVec ⟨1, ![1]⟩ w) (upd : (⟨2, ![B, C]⟩ : Shape).Idx → α)
    (h0 : (idx (ix1 (0 : Fin 1))).toInt = 0) (r : Fin A) (c : Fin C) :
    Host.scatter (rowsDims A B C wf) (fun _ b => b) x idx upd (ix2 r c) = if h : r.val < B then upd (ix2 ⟨r.val, h⟩ c) else x (ix2 r c) := by
  by_cases h : r.val < B
  · rw [dif_pos h]
    refine Routing.scatter_set_hit _ x idx upd _ _ (fun k hk => ?_) (ix2 ⟨r.val, h⟩ c) ((rows_land wf idx h0 _ _ _ _).2 ⟨rfl, rfl⟩)
    obtain ⟨b, c', rfl⟩ : ∃ (b : Fin B) (c' : Fin C), k = ix2 b c' := ⟨k 0, k 1, eq_ix2 k⟩
    obtain ⟨e, rfl⟩ := (rows_land wf idx h0 _ _ _ _).1 hk
    exact congrArg upd (congrArg (fun z => ix2 z c') (Fin.ext e))
  · rw [dif_neg h]
    refine Routing.scatter_set_miss _ x idx upd _ fun k hk => ?_
    obtain ⟨b, c', rfl⟩ : ∃ (b : Fin B) (c' : Fin C), k = ix2 b c' := ⟨k 0, k 1, eq_ix2 k⟩
    have := ((rows_land wf idx h0 _ _ _ _).1 hk).1
    omega

/-- The dimension numbers of looking an `A × B` table up at an `N × M` array of pairs (row number, column number). -/
abbrev pairDims (A B N M : ℕ) (wf : GatherDims.WF ⟨2, ![A, B]⟩ ⟨3, ![N, M, 2]⟩ ⟨2, ![N, M]⟩ [] [0, 1] [] [0, 1] [] 2 ![1, 1]) :
    GatherDims ⟨2, ![A, B]⟩ ⟨3, ![N, M, 2]⟩ ⟨2, ![N, M]⟩ where
  offsetDims := []
  collapsedSliceDims := [0, 1]
  operandBatchingDims := []
  startIndicesBatchingDims := []
  startIndexMap := [0, 1]
  indexVectorDim := 2
  sliceSizes := ![1, 1]
  wf := wf

/-- **Looking up a pair**: where the pair at `(n, k)` is row `a` and column `b`, both in range, the result there is the table's `(a, b)`. -/
theorem gather_pair {α : Type} {A B N M w : ℕ}
    (wf : GatherDims.WF ⟨2, ![A, B]⟩ ⟨3, ![N, M, 2]⟩ ⟨2, ![N, M]⟩ [] [0, 1] [] [0, 1] [] 2 ![1, 1])
    (x : (⟨2, ![A, B]⟩ : Shape).Idx → α) (idx : IVec ⟨3, ![N, M, 2]⟩ w) (n : Fin N) (k : Fin M) (a : Fin A) (b : Fin B)
    (ha : (idx (ix3 n k (0 : Fin 2))).toInt = (a.val : ℤ)) (hb : (idx (ix3 n k (1 : Fin 2))).toInt = (b.val : ℤ)) :
    Host.gather (pairDims A B N M wf) x idx (ix2 n k) = x (ix2 a b) := by
  have key : ∀ q : Fin 2, (pairDims A B N M wf).start (ix2 n k) idx q = min (idx (ix3 n k q)).toInt.toNat ((⟨2, ![A, B]⟩ : Shape).size q - 1) := by
    intro q
    unfold GatherDims.start
    have hm : q ∈ (pairDims A B N M wf).startIndexMap := by
      show q ∈ ([0, 1] : List (Fin 2))
      fin_cases q <;> simp
    rw [dif_pos hm]
    have hsi : (pairDims A B N M wf).siIdx (ix2 n k) ⟨List.idxOf q (pairDims A B N M wf).startIndexMap, List.idxOf_lt_length_iff.2 hm⟩ = ix3 n k q := by
      funext z
      refine Fin.ext ?_
      match z with
      | ⟨0, _⟩ => rfl
      | ⟨1, _⟩ => rfl
      | ⟨2, _⟩ => fin_cases q <;> rfl
    rw [hsi]
    fin_cases q <;> rfl
  unfold Host.gather
  refine congrArg x (funext fun z => Fin.ext ?_)
  match z with
  | ⟨0, _⟩ =>
    show (pairDims A B N M wf).start (ix2 n k) idx 0 + (pairDims A B N M wf).batchCoord (ix2 n k) 0 + (pairDims A B N M wf).offCoord (ix2 n k) 0 = a.val
    rw [GatherDims.batchCoord_eq_zero _ _ _ List.not_mem_nil,
      GatherDims.offCoord_eq_zero _ _ _ (fun h => ((GatherDims.mem_sKept _ _).1 h).1 (show (0 : Fin 2) ∈ ([0, 1] : List (Fin 2)) by simp)), key 0, ha]
    show min a.val (A - 1) + 0 + 0 = a.val
    omega
  | ⟨1, _⟩ =>
    show (pairDims A B N M wf).start (ix2 n k) idx 1 + (pairDims A B N M wf).batchCoord (ix2 n k) 1 + (pairDims A B N M wf).offCoord (ix2 n k) 1 = b.val
    rw [GatherDims.batchCoord_eq_zero _ _ _ List.not_mem_nil,
      GatherDims.offCoord_eq_zero _ _ _ (fun h => ((GatherDims.mem_sKept _ _).1 h).1 (show (1 : Fin 2) ∈ ([0, 1] : List (Fin 2)) by simp)), key 1, hb]
    show min b.val (B - 1) + 0 + 0 = b.val
    omega

end Cert.Digitized

end
-- ==== Proof.KernelValue.lean ====
/- The kernel's two results as closed forms of its arguments. -/
module

public import proofs.«01_k».proof.Proof.Gen.KernelIdeal.Frame
public import proofs.«01_k».proof.Proof.KernelPure
public import proofs.«01_k».proof.Proof.Movement
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Results

open Cert.KernelIdeal Cert.KernelIdeal.Gen Cert.Digitized

variable (m : (ℓ : Loc nD τ sig) → Buf (Elt Ideal) ℓ)

/-- The block of each window at each point: the rows of `x` and of the two results advance with the point, everything else stays. -/
theorem idx : ∀ t : Fin cfg0.N, t.val < 16 ∧ win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, _)

/-! The kernel's arguments on a device. -/

/-- The rows to classify. -/
abbrev x (c : Dev nD) : FVec Ideal S262144x128 .f32 := m ((c : Thread nD τ).loc main_arg0)
/-- The first layer's weights. -/
abbrev W1 (c : Dev nD) : FVec Ideal S128x128 .f32 := m ((c : Thread nD τ).loc main_arg1)
/-- The first layer's bias. -/
abbrev b1 (c : Dev nD) : FVec Ideal S128 .f32 := m ((c : Thread nD τ).loc main_arg2)
/-- The second layer's weights. -/
abbrev W2 (c : Dev nD) : FVec Ideal S128x64 .f32 := m ((c : Thread nD τ).loc main_arg3)
/-- The second layer's bias. -/
abbrev b2 (c : Dev nD) : FVec Ideal S64 .f32 := m ((c : Thread nD τ).loc main_arg4)
/-- The counts, a row per feature. -/
abbrev H (c : Dev nD) : FVec Ideal S128x5 .f32 := m ((c : Thread nD τ).loc main_arg5)
/-- The edges, a row per feature. -/
abbrev E (c : Dev nD) : FVec Ideal S128x6 .f32 := m ((c : Thread nD τ).loc main_arg6)

/-- The staged counts before the region: the counts with a row per bin, set into eight rows of zeros. -/
theorem counts_entry (c : Dev nD) : V m c main_v3 = (Host.scatter scatter_S8x128_S1_S5x128_01_n_0_0 (fun _ b => b)
    (broadcastInDim S8x128 ![] bcast_S_S8x128 (constant (F := Ideal) S_ .f32 0x00000000#32) : FVec Ideal S8x128 .f32)
    (broadcastInDim S1 ![] bcast_S_S1 (constantI S_ 32 0#32))
    (transpose S5x128 [1, 0] (H m c) transposes_S128x5_S5x128_1_0) : FVec Ideal S8x128 .f32) := by
  unfold V
  after_results
  try rfl

/-- The staged edges before the region: the inner edges with a row each, set into eight rows of infinities. -/
theorem edges_entry (c : Dev nD) : V m c main_v8 = (Host.scatter scatter_S8x128_S1_S4x128_01_n_0_0 (fun _ b => b)
    (broadcastInDim S8x128 ![] bcast_S_S8x128 (constant (F := Ideal) S_ .f32 0x7F800000#32) : FVec Ideal S8x128 .f32)
    (broadcastInDim S1 ![] bcast_S_S1 (constantI S_ 32 0#32))
    (transpose S4x128 [1, 0] (extractStridedSlice S128x4 ![0, 1] (E m c) slices_S128x6_S128x4_0_1) transposes_S128x4_S4x128_1_0) : FVec Ideal S8x128 .f32) := by
  unfold V
  after_results
  try rfl

/-- The first bias as a row. -/
theorem b1_entry (c : Dev nD) : V m c main_v9 = (shapeCast S1x128 (b1 m c) shapeCasts_S128_S1x128 : FVec Ideal S1x128 .f32) := by
  unfold V
  first
    | rfl
    | (simp only [hostOps0, V0, List.flatten_cons, List.flatten_nil, List.append_nil]; after_results; rfl)

/-- The second bias as a row. -/
theorem b2_entry (c : Dev nD) : V m c main_v10 = (shapeCast S1x64 (b2 m c) shapeCasts_S64_S1x64 : FVec Ideal S1x64 .f32) := by
  unfold V
  first
    | rfl
    | (simp only [hostOps0, V0, List.flatten_cons, List.flatten_nil, List.append_nil]; after_results; rfl)

/-- The staged counts at an index. -/
theorem counts_at (c : Dev nD) (k : Fin 8) (f : Fin 128) :
    (show FVec Ideal S8x128 .f32 from V m c main_v3) (ix2 k f) = if h : k.val < 5 then H m c (ix2 f ⟨k.val, h⟩) else 0 := by
  refine (congrFun (counts_entry m c) (ix2 k f)).trans ((scatter_rows _ _ _ _ rfl k f).trans ?_)
  by_cases h : k.val < 5
  · rw [dif_pos h, dif_pos h]
    pointwise
  · rw [dif_neg h, dif_neg h]
    pointwise

/-- The staged edges at an index. -/
theorem edges_at (c : Dev nD) (k : Fin 8) (f : Fin 128) (h : k.val < 4) :
    (show FVec Ideal S8x128 .f32 from V m c main_v8) (ix2 k f) = edge (E m c) f ⟨k.val + 1, by omega⟩ := by
  refine (congrFun (edges_entry m c) (ix2 k f)).trans ((scatter_rows _ _ _ _ rfl k f).trans ?_)
  rw [dif_pos h]
  pointwise [edge]
  exact congrArg (fun z => E m c (ix2 f z)) (Fin.ext (Nat.add_comm 1 k.val))

/-- The first bias's row at an index. -/
theorem b1_at (c : Dev nD) (f : Fin 128) : (show FVec Ideal S1x128 .f32 from V m c main_v9) (ix2 (0 : Fin 1) f) = b1 m c (ix1 f) := by
  refine (congrFun (b1_entry m c) (ix2 (0 : Fin 1) f)).trans ?_
  pointwise

/-- The second bias's row at an index. -/
theorem b2_at (c : Dev nD) (l : Fin 64) : (show FVec Ideal S1x64 .f32 from V m c main_v10) (ix2 (0 : Fin 1) l) = b2 m c (ix1 l) := by
  refine (congrFun (b2_entry m c) (ix2 (0 : Fin 1) l)).trans ?_
  pointwise

/-- The first layer's blocks at a point. -/
theorem blocks (c : Dev nD) (t : Fin cfg0.N) (r : Fin 16384) (n : Fin 262144) (hn : n.val = t.val * 16384 + r.val) :
    Body.First (show FVec Ideal S16384x128 .f32 from iblk m c 0 t) (show FVec Ideal S128x128 .f32 from iblk m c 1 t)
      (show FVec Ideal S1x128 .f32 from iblk m c 2 t) (x m c) (W1 m c) (b1 m c) r n where
  row k := by blk_ext [iblk, V, idx t]
  weight k f := by blk_ext [iblk, V, idx t]
  offset f := by
    refine Eq.trans ?_ (b1_at m c f)
    blk_ext [iblk, idx t]

/-- The second layer's weights at a point are the argument's. -/
theorem second_layer (c : Dev nD) (t : Fin cfg0.N) (f : Fin 128) (l : Fin 64) :
    (show FVec Ideal S128x64 .f32 from iblk m c 3 t) (ix2 f l) = W2 m c (ix2 f l) := by
  blk_ext [iblk, V, idx t]

/-- The second layer's bias at a point is the argument's. -/
theorem second_offset (c : Dev nD) (t : Fin cfg0.N) (l : Fin 64) :
    (show FVec Ideal S1x64 .f32 from iblk m c 4 t) (ix2 (0 : Fin 1) l) = b2 m c (ix1 l) := by
  refine Eq.trans ?_ (b2_at m c l)
  blk_ext [iblk, idx t]

/-- The staged tables at a point. -/
theorem tables (c : Dev nD) (t : Fin cfg0.N) :
    Body.Tables (show FVec Ideal S8x128 .f32 from iblk m c 5 t) (show FVec Ideal S8x128 .f32 from iblk m c 6 t) (H m c) (E m c) := by
  have h5 : ∀ (k : Fin 8) (f : Fin 128), (show FVec Ideal S8x128 .f32 from iblk m c 5 t) (ix2 k f) = (show FVec Ideal S8x128 .f32 from V m c main_v3) (ix2 k f) :=
    fun k f => by blk_ext [iblk, idx t]
  have h6 : ∀ (k : Fin 8) (f : Fin 128), (show FVec Ideal S8x128 .f32 from iblk m c 6 t) (ix2 k f) = (show FVec Ideal S8x128 .f32 from V m c main_v8) (ix2 k f) :=
    fun k f => by blk_ext [iblk, idx t]
  refine ⟨fun k f h => ?_, fun k f h => ?_, fun k f h => (h6 k f).trans (edges_at m c k f h)⟩
  · exact (h5 k f).trans ((counts_at m c k f).trans (dif_pos h))
  · exact (h5 k f).trans ((counts_at m c k f).trans (dif_neg (by omega)))

/-- The first window's block at a point holds the outputs of the point's rows. -/
theorem point_out (c : Dev nD) (t : Fin cfg0.N) (y : S16384x64.Idx) (i : S262144x64.Idx) (h0 : (i 0).val = t.val * 16384 + (y 0).val)
    (h1 : (i 1).val = (y 1).val) :
    (show FVec Ideal S16384x64 .f32 from k0_pay3 (F := Ideal) (iblk m c 0 t) (iblk m c 1 t) (iblk m c 2 t) (iblk m c 3 t) (iblk m c 4 t)) y
      = output (x m c) (W1 m c) (b1 m c) (W2 m c) (b2 m c) (i 0) (i 1) := by
  obtain ⟨r, l, rfl⟩ : ∃ (r : Fin 16384) (l : Fin 64), y = ix2 r l := ⟨y 0, y 1, eq_ix2 y⟩
  obtain ⟨n, l', rfl⟩ : ∃ (n : Fin 262144) (l' : Fin 64), i = ix2 n l' := ⟨i 0, i 1, eq_ix2 i⟩
  obtain rfl : l' = l := Fin.ext h1
  exact Body.outputs (blocks m c t r n h0) (second_layer m c t) (second_offset m c t) l'

/-- The second window's block at a point holds the biases of the point's rows. -/
theorem point_bias (c : Dev nD) (hc : Counted (H m c) (E m c)) (t : Fin cfg0.N) (y : S16384x1.Idx) (i : S262144x1.Idx)
    (h0 : (i 0).val = t.val * 16384 + (y 0).val) :
    (show FVec Ideal S16384x1 .f32 from k0_pay1 (F := Ideal) (k0_pay2 (iblk m c 0 t) (iblk m c 1 t) (iblk m c 2 t)) (k0_pay4 (iblk m c 5 t)) (k0_pay5 (iblk m c 6 t))
      (k0_pay6 (iblk m c 0 t) (iblk m c 1 t) (iblk m c 2 t) (iblk m c 5 t) (iblk m c 6 t))
      (k0_pay7 (iblk m c 0 t) (iblk m c 1 t) (iblk m c 2 t) (iblk m c 6 t))) y
      = bias (x m c) (W1 m c) (b1 m c) (H m c) (E m c) (i 0) := by
  obtain ⟨r, z, rfl⟩ : ∃ (r : Fin 16384) (z : Fin 1), y = ix2 r z := ⟨y 0, y 1, eq_ix2 y⟩
  obtain rfl : z = 0 := Subsingleton.elim _ _
  exact Body.biases (blocks m c t r (i 0) h0) (tables m c t) hc

/-- **The first result after the region.** -/
theorem final_out (c : Dev nD) :
    (dats m 0 c).arrAt 7 (cfgs 0).N = (fun j => output (x m c) (W1 m c) (b1 m c) (W2 m c) (b2 m c) (j 0) (j 1) : FVec Ideal S262144x64 .f32) := by
  refine (dats m 0 c).arrAt_eq_of_covers 7 _ (by decide +kernel) fun t _ y => ?_
  blk_simp
  rw [after0_7]; frame_out
  refine point_out m c t y (((View.whole main_v11_0).slice (win0_7.rect t)).emb y) ?_ ?_
  · blk_simp [idx t]
  · blk_simp [idx t]

/-- **The second result after the region**, a column. -/
theorem final_bias (c : Dev nD) (hc : Counted (H m c) (E m c)) :
    (dats m 0 c).arrAt 8 (cfgs 0).N = (fun j => bias (x m c) (W1 m c) (b1 m c) (H m c) (E m c) (j 0) : FVec Ideal S262144x1 .f32) := by
  refine (dats m 0 c).arrAt_eq_of_covers 8 _ (by decide +kernel) fun t _ y => ?_
  blk_simp
  rw [after0_8]; frame_out
  refine point_bias m c hc t y (((View.whole main_v11_1).slice (win0_8.rect t)).emb y) ?_
  blk_simp [idx t]

/-- The second result after the program's last line: the column as a vector. -/
theorem tail (c : Dev nD) : Pipeline.afterTail₀ cfgs (dats m) 0 (V0 m) [hostOps1] c main_v12
    = (shapeCast S262144 (show FVec Ideal S262144x1 .f32 from (dats m 0 c).arrAt 8 (cfgs 0).N) shapeCasts_S262144x1_S262144 : FVec Ideal S262144 .f32) := by
  unfold Pipeline.afterTail₀
  simp only [hostOps1, List.flatten_cons, List.flatten_nil, List.append_nil]
  after_results
  exact congrArg (fun v : FVec Ideal S262144x1 .f32 => (shapeCast S262144 v shapeCasts_S262144x1_S262144 : FVec Ideal S262144 .f32))
    (Pipeline.withArrays_arr (cfgs 0).spec (by decide : Function.Injective (Pipeline.arrRef spec0)) c (V0 m c) (fun w => (dats m 0 c).arrAt w (cfgs 0).N) 8)

/-- **A run of the kernel ends with both results at their closed forms**, and with its arguments unchanged. -/
theorem run (g : Dev nD → PrngReg) (hc : ∀ c : Dev nD, Counted (H m c) (E m c)) :
    θ_run (defs (F := Ideal)) (onTc (τ := τ) (main (F := Ideal))) ⟨m, fun _ => 0, g⟩ fun r => ∀ c : Dev nD,
      r.2.mem ((c.tc : Thread nD τ).loc main_v11_0) = (fun j => output (x m c) (W1 m c) (b1 m c) (W2 m c) (b2 m c) (j 0) (j 1) : FVec Ideal S262144x64 .f32)
      ∧ r.2.mem ((c.tc : Thread nD τ).loc main_v12) = (fun j => bias (x m c) (W1 m c) (b1 m c) (H m c) (E m c) (j 0) : FVec Ideal S262144 .f32) :=
  (θ_run defs _ _).mono (fun _ h c => ⟨((h c).1 7).trans (final_out m c),
      ((h c).2 main_v12 (Pipeline.mem_restRefs_of main_v12 (by decide) (by decide))).trans ((tail m c).trans (by
        rw [final_bias m c (hc c)]
        funext j
        idx_vars j
        pointwise))⟩) (run_main m g)

end Cert.KernelIdeal.Results

end
-- ==== Proof.RefPure.lean ====
/- The reference's composed terms read at an element. -/
module

public import proofs.«01_k».proof.Proof.Gen.ReferenceIdeal.Run
public import proofs.«01_k».proof.Proof.Math
public import proofs.«01_k».proof.Proof.Movement
public import Idealize.ShloMosaic.Lib.Pointwise

@[expose] public section

set_option maxRecDepth 16384

noncomputable section

open Idealize.ShloMosaic Idealize.ShloMosaic.TcCoe Idealize.SL.Sem

namespace Cert.ReferenceIdeal.Read

open Cert.ReferenceIdeal Cert.ReferenceIdeal.Gen Cert.ReferenceIdeal.Value Cert.Digitized

variable (V : Valuation τ sig (Elt Ideal))
variable (x : FVec Ideal S262144x128 .f32) (W1 : FVec Ideal S128x128 .f32) (b1 : FVec Ideal S128 .f32) (W2 : FVec Ideal S128x64 .f32) (b2 : FVec Ideal S64 .f32)
  (H : FVec Ideal S128x5 .f32) (E : FVec Ideal S128x6 .f32)

/-- The reference's seven arguments. -/
structure Args : Prop where
  a0 : V (Proc.devRef .tc main_arg0) = x
  a1 : V (Proc.devRef .tc main_arg1) = W1
  a2 : V (Proc.devRef .tc main_arg2) = b1
  a3 : V (Proc.devRef .tc main_arg3) = W2
  a4 : V (Proc.devRef .tc main_arg4) = b2
  a5 : V (Proc.devRef .tc main_arg5) = H
  a6 : V (Proc.devRef .tc main_arg6) = E

/-- The reference's features. -/
def F8 : FVec Ideal S262144x128 .f32 := res_main_v8 V
/-- The reference's bin numbers. -/
def N22 : IVec S262144x128 32 := res_main_v22 V
/-- The reference's probabilities. -/
def P39 : FVec Ideal S262144x128 .f32 := res_main_v39 V
/-- The products of 2 probabilities. -/
def P42 : FVec Ideal S262144x64 .f32 := res_main_v42 V
/-- The products of 4 probabilities. -/
def P45 : FVec Ideal S262144x32 .f32 := res_main_v45 V
/-- The products of 8 probabilities. -/
def P48 : FVec Ideal S262144x16 .f32 := res_main_v48 V
/-- The products of 16 probabilities. -/
def P51 : FVec Ideal S262144x8 .f32 := res_main_v51 V
/-- The products of 32 probabilities. -/
def P54 : FVec Ideal S262144x4 .f32 := res_main_v54 V
/-- The products of 64 probabilities. -/
def P57 : FVec Ideal S262144x2 .f32 := res_main_v57 V

variable {V x W1 b1 W2 b2 H E}

/-- The reference's features are the features. -/
theorem features (a : Args V x W1 b1 W2 b2 H E) (n : Fin 262144) (f : Fin 128) : F8 V (ix2 n f) = feature x W1 b1 n f := by
  unfold F8 res_main_v8 feature
  rw [a.a0, a.a1, a.a2]
  pointwise []

/-- The reference's bin number is the clipped count of the edges that are at most the feature. -/
theorem count (a : Args V x W1 b1 W2 b2 H E) (n : Fin 262144) (f : Fin 128) :
    N22 V (ix2 n f) = clipped fun k => decide (edge E f k ≤ feature x W1 b1 n f) := by
  rw [← features a]
  unfold N22 res_main_v22 F8 clipped edge
  rw [a.a6]
  generalize res_main_v8 V = F
  pointwise []
  rfl

/-- Along ascending edges the reference's bin number is the bin's. -/
theorem number (a : Args V x W1 b1 W2 b2 H E) (h : Counted H E) (n : Fin 262144) (f : Fin 128) :
    N22 V (ix2 n f) = BitVec.ofNat 32 (bin (edge E f) (feature x W1 b1 n f)).val :=
  (count a n f).trans (clipped_bin _ _ (h.ascend f))

/-- The reference's probabilities are the shares of the features' bins. -/
theorem probabilities (a : Args V x W1 b1 W2 b2 H E) (h : Counted H E) (n : Fin 262144) (f : Fin 128) :
    P39 V (ix2 n f) = probability x W1 b1 H E n f := by
  have hN := number a h n f
  unfold N22 at hN
  unfold P39 res_main_v39
  rw [a.a5]
  generalize res_main_v22 V = N at hN ⊢
  generalize hI : concatenate (α := BitVec 32) _ _ _ _ = I
  have h0 : I (ix3 n f (0 : Fin 2)) = BitVec.ofNat 32 f.val := by
    rw [← hI]
    pointwise [res_main_v24]
    exact wrap_small _ _ (by omega)
  have h1 : I (ix3 n f (1 : Fin 2)) = BitVec.ofNat 32 (bin (edge E f) (feature x W1 b1 n f)).val := by
    rw [← hI]
    pointwise []
    refine Eq.trans ?_ (wrap_small _ (IntOp.addi (N (ix2 n f)) 5#32) (by omega))
    rw [← hN]
  refine (gather_pair _ _ I n f f (bin (edge E f) (feature x W1 b1 n f)) (by rw [h0, toInt_small _ (by omega)]) (by rw [h1, toInt_small _ (by omega)])).trans ?_
  unfold probability share
  generalize bin (edge E f) (feature x W1 b1 n f) = k
  pointwise []

/-- A product of 2 probabilities is a product of two products of 1, or of two probabilities. -/
theorem halved42 (n : Fin 262144) (k : Fin 64) : P42 V (ix2 n k) = P39 V (ix2 n ⟨k.val, by omega⟩) * P39 V (ix2 n ⟨64 + k.val, by omega⟩) := by
  unfold P42 P39 res_main_v42
  pointwise []

/-- A product of 4 probabilities is a product of two products of 2, or of two probabilities. -/
theorem halved45 (n : Fin 262144) (k : Fin 32) : P45 V (ix2 n k) = P42 V (ix2 n ⟨k.val, by omega⟩) * P42 V (ix2 n ⟨32 + k.val, by omega⟩) := by
  unfold P45 P42 res_main_v45
  pointwise []

/-- A product of 8 probabilities is a product of two products of 4, or of two probabilities. -/
theorem halved48 (n : Fin 262144) (k : Fin 16) : P48 V (ix2 n k) = P45 V (ix2 n ⟨k.val, by omega⟩) * P45 V (ix2 n ⟨16 + k.val, by omega⟩) := by
  unfold P48 P45 res_main_v48
  pointwise []

/-- A product of 16 probabilities is a product of two products of 8, or of two probabilities. -/
theorem halved51 (n : Fin 262144) (k : Fin 8) : P51 V (ix2 n k) = P48 V (ix2 n ⟨k.val, by omega⟩) * P48 V (ix2 n ⟨8 + k.val, by omega⟩) := by
  unfold P51 P48 res_main_v51
  pointwise []

/-- A product of 32 probabilities is a product of two products of 16, or of two probabilities. -/
theorem halved54 (n : Fin 262144) (k : Fin 4) : P54 V (ix2 n k) = P51 V (ix2 n ⟨k.val, by omega⟩) * P51 V (ix2 n ⟨4 + k.val, by omega⟩) := by
  unfold P54 P51 res_main_v54
  pointwise []

/-- A product of 64 probabilities is a product of two products of 32, or of two probabilities. -/
theorem halved57 (n : Fin 262144) (k : Fin 2) : P57 V (ix2 n k) = P54 V (ix2 n ⟨k.val, by omega⟩) * P54 V (ix2 n ⟨2 + k.val, by omega⟩) := by
  unfold P57 P54 res_main_v57
  pointwise []

/-- The two last products multiply to the product of all 128 probabilities. -/
theorem product (n : Fin 262144) : P57 V (ix2 n (0 : Fin 2)) * P57 V (ix2 n (1 : Fin 2)) = ∏ f : Fin 128, P39 V (ix2 n f) := by
  have h57 := Fin.prod_univ_two fun k : Fin 2 => P57 V (ix2 n k)
  refine h57.symm.trans ?_
  refine (Finset.prod_congr rfl fun k _ => halved57 n k).trans ((prod_halves 2 rfl fun k : Fin 4 => P54 V (ix2 n k)).trans ?_)
  refine (Finset.prod_congr rfl fun k _ => halved54 n k).trans ((prod_halves 4 rfl fun k : Fin 8 => P51 V (ix2 n k)).trans ?_)
  refine (Finset.prod_congr rfl fun k _ => halved51 n k).trans ((prod_halves 8 rfl fun k : Fin 16 => P48 V (ix2 n k)).trans ?_)
  refine (Finset.prod_congr rfl fun k _ => halved48 n k).trans ((prod_halves 16 rfl fun k : Fin 32 => P45 V (ix2 n k)).trans ?_)
  refine (Finset.prod_congr rfl fun k _ => halved45 n k).trans ((prod_halves 32 rfl fun k : Fin 64 => P42 V (ix2 n k)).trans ?_)
  refine (Finset.prod_congr rfl fun k _ => halved42 n k).trans ((prod_halves 64 rfl fun k : Fin 128 => P39 V (ix2 n k)).trans ?_)
  rfl

/-- **The reference's second result is the product of the shares of the features' bins.** -/
theorem second (a : Args V x W1 b1 W2 b2 H E) (h : Counted H E) :
    (shapeCast S262144 (mulf (extractStridedSlice S262144x1 ![0, 0] (P57 V) slices_S262144x2_S262144x1_0_0)
      (extractStridedSlice S262144x1 ![0, 1] (P57 V) slices_S262144x2_S262144x1_0_1)) shapeCasts_S262144x1_S262144 : FVec Ideal S262144 .f32)
      = fun j => bias x W1 b1 H E (j 0) := by
  funext j
  idx_vars j
  pointwise []
  refine (product _).trans ?_
  exact Finset.prod_congr rfl fun f _ => probabilities a h _ f

/-- **The reference's first result is the outputs.** -/
theorem first (a : Args V x W1 b1 W2 b2 H E) :
    (addf (Host.dotGeneral dot_S262144x128_S128x64_S262144x64_1_0_0_1_n_n none (F8 V) W2)
      (broadcastInDim S262144x64 ![0, 1] bcast_S1x64_S262144x64_0_1 (broadcastInDim S1x64 ![1] bcast_S64_S1x64_1 b2)) : FVec Ideal S262144x64 .f32)
      = fun j => output x W1 b1 W2 b2 (j 0) (j 1) := by
  funext j
  idx_vars j
  pointwise [output]
  refine congrArg (· + _) (Finset.sum_congr rfl fun f _ => ?_)
  rw [features a]

end Cert.ReferenceIdeal.Read

end
-- ==== Proof.lean ====
/- The claim, put together: the frames of the kernel and of the reference, and the two results of the kernel, which are the reference's. The closed forms
   of the results (`Cert.Digitized.output`, `Cert.Digitized.bias`) are in `Proof/Math.lean`; `Proof/KernelValue.lean` shows that the kernel computes them and
   `Proof/RefPure.lean` that the reference does. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_counted_and_ascending
public import proofs.«01_k».proof.Proof.Pre
public import proofs.«01_k».proof.Proof.KernelValue
public import proofs.«01_k».proof.Proof.RefPure
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- **The kernel's two results are the reference's.** -/
theorem results : Cert.algebraic_KernelIdeal_ReferenceIdeal_pre_counted_and_ascending := by
  intro m g m' g' hpre hagree
  have hc : ∀ c : Dev Cert.KernelIdeal.nD, Cert.Digitized.Counted (Cert.KernelIdeal.Results.H m c) (Cert.KernelIdeal.Results.E m c) :=
    fun c => Cert.Pre_counted_and_ascending.Read.counted _ _ _ _ _ _ _ (hpre c)
  refine ⟨fun c => (fun j => Cert.Digitized.output (Cert.KernelIdeal.Results.x m c) (Cert.KernelIdeal.Results.W1 m c) (Cert.KernelIdeal.Results.b1 m c)
      (Cert.KernelIdeal.Results.W2 m c) (Cert.KernelIdeal.Results.b2 m c) (j 0) (j 1) : FVec Ideal Cert.KernelIdeal.S262144x64 .f32),
    fun c => (fun j => Cert.Digitized.bias (Cert.KernelIdeal.Results.x m c) (Cert.KernelIdeal.Results.W1 m c) (Cert.KernelIdeal.Results.b1 m c)
      (Cert.KernelIdeal.Results.H m c) (Cert.KernelIdeal.Results.E m c) (j 0) : FVec Ideal Cert.KernelIdeal.S262144 .f32), ?_, ?_⟩
  · exact (θ_run (Cert.KernelIdeal.defs (F := Ideal)) _ _).mono (fun _ h c => ⟨(h.1 c).1, (h.1 c).2, h.2 c⟩)
      (θ_run_and (Cert.KernelIdeal.Results.run m g hc) (Cert.KernelIdeal.Gen.unchanged m g))
  · refine (θ_run (Cert.ReferenceIdeal.defs (F := Ideal)) _ _).mono (fun r h c => ?_) (Cert.ReferenceIdeal.Value.run (F := Ideal) m' g')
    have a : Cert.ReferenceIdeal.Read.Args (Idealize.ShloMosaic.StableHlo.launchContents m' c) (Cert.KernelIdeal.Results.x m c) (Cert.KernelIdeal.Results.W1 m c)
        (Cert.KernelIdeal.Results.b1 m c) (Cert.KernelIdeal.Results.W2 m c) (Cert.KernelIdeal.Results.b2 m c) (Cert.KernelIdeal.Results.H m c)
        (Cert.KernelIdeal.Results.E m c) :=
      ⟨(hagree c).1, (hagree c).2.1, (hagree c).2.2.1, (hagree c).2.2.2.1, (hagree c).2.2.2.2.1, (hagree c).2.2.2.2.2.1, (hagree c).2.2.2.2.2.2⟩
    refine ⟨(h c).1.trans ?_, (h c).2.1.trans ?_, (h c).2.2⟩
    · rw [a.a3, a.a4]
      exact Cert.ReferenceIdeal.Read.first a
    · exact Cert.ReferenceIdeal.Read.second a (hc c)

/-- The reference leaves its arguments unchanged and every counter at zero. -/
theorem reference_frame : Cert.quiescent_ReferenceIdeal := fun m g _ =>
  (θ_run (Cert.ReferenceIdeal.defs (F := Ideal)) _ _).mono
    (fun r h => ⟨fun c => (h c).2.2, Idealize.ShloMosaic.sem_eq_zero_of_no_sems (by decide) r.2⟩)
    (Cert.ReferenceIdeal.Value.run (F := Ideal) m g)

/-- Every claim. -/
theorem claim : Cert.Claim := ⟨Cert.Kernel.Gen.facts, Cert.KernelIdeal.Gen.facts, Cert.ReferenceIdeal.Gen.facts, Cert.Pre_counted_and_ascending.Gen.facts,
  fun m g _ => Cert.Kernel.Gen.frame m g, fun m g _ => Cert.KernelIdeal.Gen.frame m g, fun m g _ => Cert.KernelIdeal.Gen.frame m g,
  reference_frame, fun m g _ => reference_frame m g trivial, trivial, results⟩

end Cert.Proof

end
